-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x6016 : Shape := ⟨3, ![2, 1536, 6016]⟩
abbrev S2x1536x1 : Shape := ⟨3, ![2, 1536, 1]⟩
abbrev S6016x1280 : Shape := ⟨2, ![6016, 1280]⟩
abbrev S1x1280 : Shape := ⟨2, ![1, 1280]⟩
abbrev S3072x6016 : Shape := ⟨2, ![3072, 6016]⟩
abbrev S2x1x1536 : Shape := ⟨3, ![2, 1, 1536]⟩
abbrev S3072x1280 : Shape := ⟨2, ![3072, 1280]⟩
abbrev S384x6016 : Shape := ⟨2, ![384, 6016]⟩
abbrev S1x1x384 : Shape := ⟨3, ![1, 1, 384]⟩
abbrev S384x1280 : Shape := ⟨2, ![384, 1280]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S128x1280 : Shape := ⟨2, ![128, 1280]⟩
abbrev S2x1536x1280 : Shape := ⟨3, ![2, 1536, 1280]⟩

abbrev nBuf : Space → Nat
  | .hbm => 10
  | .vmem => 10
  | .smem => 0
  | _ => 0

abbrev bufTy : (tb : Table) → Fin (tcTables nBuf tb) → BufTy
  | .hbm, ⟨0, _⟩ => ⟨S2x1536x6016, .fp8e4m3⟩
  | .hbm, ⟨1, _⟩ => ⟨S2x1536x1, .f32⟩
  | .hbm, ⟨2, _⟩ => ⟨S6016x1280, .fp8e4m3⟩
  | .hbm, ⟨3, _⟩ => ⟨S1x1280, .f32⟩
  | .hbm, ⟨4, _⟩ => ⟨S3072x6016, .fp8e4m3⟩
  | .hbm, ⟨5, _⟩ => ⟨S2x1x1536, .f32⟩
  | .hbm, ⟨6, _⟩ => ⟨S3072x1280, .fp8e4m3⟩
  | .hbm, ⟨7, _⟩ => ⟨S2x1x1536, .f32⟩
  | .hbm, ⟨8, _⟩ => ⟨S2x1536x1280, .fp8e4m3⟩
  | .hbm, ⟨9, _⟩ => ⟨S2x1536x1, .f32⟩
  | .local _ .vmem, ⟨0, _⟩ => ⟨S384x6016, .fp8e4m3⟩
  | .local _ .vmem, ⟨1, _⟩ => ⟨S384x6016, .fp8e4m3⟩
  | .local _ .vmem, ⟨2, _⟩ => ⟨S1x1x384, .f32⟩
  | .local _ .vmem, ⟨3, _⟩ => ⟨S1x1x384, .f32⟩
  | .local _ .vmem, ⟨4, _⟩ => ⟨S6016x1280, .fp8e4m3⟩
  | .local _ .vmem, ⟨5, _⟩ => ⟨S1x1280, .f32⟩
  | .local _ .vmem, ⟨6, _⟩ => ⟨S384x1280, .fp8e4m3⟩
  | .local _ .vmem, ⟨7, _⟩ => ⟨S384x1280, .fp8e4m3⟩
  | .local _ .vmem, ⟨8, _⟩ => ⟨S1x1x384, .f32⟩
  | .local _ .vmem, ⟨9, _⟩ => ⟨S1x1x384, .f32⟩
  | _, _ => ⟨S2x1536x6016, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S384x6016 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6016x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x1536x6016 : Shape := ⟨3, ![2, 1536, 6016]⟩
abbrev S2x1536x1 : Shape := ⟨3, ![2, 1536, 1]⟩
abbrev S6016x1280 : Shape := ⟨2, ![6016, 1280]⟩
abbrev S1x1280 : Shape := ⟨2, ![1, 1280]⟩
abbrev S2x1536x1280 : Shape := ⟨3, ![2, 1536, 1280]⟩
abbrev S1x1x1280 : Shape := ⟨3, ![1, 1, 1280]⟩
abbrev S2x1536 : Shape := ⟨2, ![2, 1536]⟩

abbrev nBuf : Space → Nat
  | .hbm => 6
  | .vmem => 6
  | .smem => 0
  | _ => 0

abbrev bufTy : (tb : Table) → Fin (tcTables nBuf tb) → BufTy
  | .hbm, ⟨0, _⟩ => ⟨S2x1536x6016, .fp8e4m3⟩
  | .hbm, ⟨1, _⟩ => ⟨S2x1536x1, .f32⟩
  | .hbm, ⟨2, _⟩ => ⟨S6016x1280, .fp8e4m3⟩
  | .hbm, ⟨3, _⟩ => ⟨S1x1280, .f32⟩
  | .hbm, ⟨4, _⟩ => ⟨S2x1536x1280, .fp8e4m3⟩
  | .hbm, ⟨5, _⟩ => ⟨S2x1536x1, .f32⟩
  | .local _ .vmem, ⟨0, _⟩ => ⟨S2x1536x6016, .fp8e4m3⟩
  | .local _ .vmem, ⟨1, _⟩ => ⟨S2x1536x1, .f32⟩
  | .local _ .vmem, ⟨2, _⟩ => ⟨S6016x1280, .fp8e4m3⟩
  | .local _ .vmem, ⟨3, _⟩ => ⟨S1x1280, .f32⟩
  | .local _ .vmem, ⟨4, _⟩ => ⟨S2x1536x1280, .fp8e4m3⟩
  | .local _ .vmem, ⟨5, _⟩ => ⟨S2x1536x1, .f32⟩
  | _, _ => ⟨S2x1536x6016, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x1536x6016 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6016x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/-
  The exponent arithmetic of the quantiser, on one extended real.

  The kernel finds the exponent of a row's `x = max / 448` by eight comparisons with powers of two (a binary search over the
  biased exponent) and forms the scale and its inverse as words `(127 ± e) << 23`. The reference takes
  `⌊log x / log 2⌋ + 1` inside f32's exponent range and `2 ^ e`, `2 ^ (-e)`. This module states both on a scalar and proves
  them equal (`scaleK_eq`, `inverseK_eq`).
-/
module

public import Idealize.ShloMosaic.PureOps.Ideal
public import Idealize.ShloMosaic.PureOps.Ideal.Laws
public import Idealize.ShloMosaic.Lib.Pointwise.Index

@[expose] public section

noncomputable section

namespace Cert.Exponent

open Idealize.ShloMosaic

/-! ## The two computations -/

/-- The number whose f32 word has exponent field `b` and nothing else. -/
def power (b : BitVec 32) : EReal := Ideal.ofBits .f32 (IntOp.shli .vector b 23#32)

/-- One step of the kernel's search: add `s` where `x` is at least the power of two of the sum. -/
def step (x : EReal) (s b : BitVec 32) : BitVec 32 :=
  Scalar.select (Ideal.cmp .oge x (power (IntOp.addi b s))) (IntOp.addi b s) b

/-- The kernel's biased exponent of `x`. -/
def search (x : EReal) : BitVec 32 :=
  step x 1#32 (step x 2#32 (step x 4#32 (step x 8#32 (step x 16#32 (step x 32#32 (step x 64#32 (step x 128#32 0#32)))))))

/-- The exponent of a biased exponent `b`, everything from 2^126 on counted as overflow. -/
def biasedOf (b : BitVec 32) : BitVec 32 := Scalar.select (IntOp.cmpi .slt b 253#32) b 255#32

/-- The exponent of a biased exponent `b`: zero outside the normal range. -/
def exponentOf (b : BitVec 32) : BitVec 32 :=
  Scalar.select (IntOp.andi (IntOp.cmpi .sgt (biasedOf b) 0#32) (IntOp.cmpi .slt (biasedOf b) 255#32))
    (IntOp.subi (biasedOf b) 126#32) 0#32

/-- The kernel's exponent of `x`. -/
def exponentK (x : EReal) : BitVec 32 := exponentOf (search x)

/-- The kernel's scale. -/
def scaleK (x : EReal) : EReal := power (IntOp.addi 127#32 (exponentK x))

/-- The kernel's inverse of the scale. -/
def inverseK (x : EReal) : EReal := power (IntOp.subi 127#32 (exponentK x))

/-- The reference's exponent: `⌊log₂ x⌋ + 1` in f32's exponent range, zero outside it. -/
def exponentR (x : EReal) : EReal :=
  Scalar.select
    (IntOp.andi (Ideal.cmp .oge x (Ideal.ofBits .f32 0x00800000#32)) (Ideal.cmp .olt x (Ideal.ofBits .f32 0x7E800000#32)))
    (Ideal.liftRound Int.floor (Ideal.div (Ideal.log x) ((Real.log 2 : ℝ) : EReal)) + Ideal.ofBits .f32 0x3F800000#32)
    (Ideal.ofBits .f32 0x00000000#32)

/-- The reference's scale. -/
def scaleR (x : EReal) : EReal := Ideal.exp2 (exponentR x)

/-- The reference's inverse of the scale. -/
def inverseR (x : EReal) : EReal := Ideal.exp2 (Ideal.ofBits .f32 0x00000000#32 - exponentR x)

/-! ## Powers of two as words -/

/-- The value of a word with exponent field `n` and an empty fraction. -/
theorem power_ofNat : ∀ n < 256, power (BitVec.ofNat 32 n)
    = if n = 255 then ⊤ else if n = 0 then 0 else (((2 : ℝ) ^ ((n : Int) - 127) : ℝ) : EReal) := by
  intro n hn
  have h1 : IntOp.shli .vector (BitVec.ofNat 32 n) 23#32 = BitVec.ofNat 32 n <<< 23 := rfl
  have hneg : ∀ n < 256, ((BitVec.ofNat 32 n <<< 23).extractLsb' 31 1 == 1#1) = false := by decide +kernel
  have hex : ∀ n < 256, ((BitVec.ofNat 32 n <<< 23).extractLsb' 23 8).toNat = n := by decide +kernel
  have hfr : ∀ n < 256, ((BitVec.ofNat 32 n <<< 23).extractLsb' 0 23).toNat = 0 := by decide +kernel
  rw [power, h1]
  show Ideal.ieee 8 23 (BitVec.ofNat 32 n <<< 23) = _
  unfold Ideal.ieee
  simp only [Nat.reduceAdd, hneg n hn, hex n hn, hfr n hn]
  by_cases h255 : n = 255
  · simp [h255]
  by_cases h0 : n = 0
  · simp [h0]
  · simp only [h255, h0, Nat.reducePow, Nat.reduceSub, if_false, Bool.false_eq_true, one_mul, Nat.add_zero]
    have h2 : (((8388608 : ℕ) : ℝ)) = (2 : ℝ) ^ (23 : Int) := by norm_num
    rw [h2, ← zpow_add₀ (by norm_num)]
    norm_num

theorem power_normal {n : ℕ} (h0 : 1 ≤ n) (h1 : n ≤ 254) :
    power (BitVec.ofNat 32 n) = (((2 : ℝ) ^ ((n : Int) - 127) : ℝ) : EReal) := by
  rw [power_ofNat n (by omega), if_neg (by omega), if_neg (by omega)]

/-- Larger exponent fields denote larger numbers. -/
theorem power_mono {n k : ℕ} (h : n ≤ k) (hk : k < 256) : power (BitVec.ofNat 32 n) ≤ power (BitVec.ofNat 32 k) := by
  rw [power_ofNat n (by omega), power_ofNat k hk]
  by_cases hk1 : k = 255
  · simp [hk1]
  by_cases hn0 : n = 0
  · subst hn0
    rw [if_neg (by omega), if_pos rfl, if_neg hk1]
    by_cases hk0 : k = 0
    · simp [hk0]
    · rw [if_neg hk0]; exact_mod_cast (by positivity : (0 : ℝ) ≤ 2 ^ ((k : Int) - 127))
  · rw [if_neg (by omega), if_neg hn0, if_neg hk1, if_neg (by omega)]
    exact EReal.coe_le_coe_iff.mpr <| zpow_le_zpow_right₀ (by norm_num : (1 : ℝ) ≤ 2) (by omega)

/-! ## The search -/

/-- What the search knows of its exponent `b` with steps below `s` still to come. -/
def Bracket (x : EReal) (s b : ℕ) : Prop :=
  b + s ≤ 256 ∧ (b = 0 ∨ power (BitVec.ofNat 32 b) ≤ x) ∧ (b + s = 256 ∨ x < power (BitVec.ofNat 32 (b + s)))

theorem select_ofBool {α : Type} (p : Prop) [Decidable p] (a b : α) :
    Scalar.select (BitVec.ofBool (decide p)) a b = if p then a else b := by
  by_cases h : p <;> simp [Scalar.select, h]

theorem step_ofNat (x : EReal) (s b : ℕ) :
    step x (BitVec.ofNat 32 s) (BitVec.ofNat 32 b)
      = BitVec.ofNat 32 (if power (BitVec.ofNat 32 (b + s)) ≤ x then b + s else b) := by
  have h : IntOp.addi (BitVec.ofNat 32 b) (BitVec.ofNat 32 s) = BitVec.ofNat 32 (b + s) := (BitVec.ofNat_add b s).symm
  unfold step
  rw [h]
  show Scalar.select (BitVec.ofBool (decide (power (BitVec.ofNat 32 (b + s)) ≤ x))) _ _ = _
  rw [select_ofBool]
  split <;> rfl

/-- One step halves the bracket. -/
theorem bracket_step {x : EReal} {s b : ℕ} (h : Bracket x (s + s) b) :
    ∃ b', step x (BitVec.ofNat 32 s) (BitVec.ofNat 32 b) = BitVec.ofNat 32 b' ∧ Bracket x s b' := by
  obtain ⟨h1, h2, h3⟩ := h
  refine ⟨_, step_ofNat x s b, ?_⟩
  by_cases hp : power (BitVec.ofNat 32 (b + s)) ≤ x
  · rw [if_pos hp]
    refine ⟨by omega, .inr hp, ?_⟩
    rw [show b + s + s = b + (s + s) by omega]; exact h3
  · rw [if_neg hp]
    exact ⟨by omega, h2, .inr (not_le.mp hp)⟩

/-- The search ends at the exponent field whose binade holds `x`. -/
theorem search_bracket (x : EReal) : ∃ b, search x = BitVec.ofNat 32 b ∧ Bracket x 1 b := by
  have h0 : Bracket x (128 + 128) 0 := ⟨by norm_num, .inl rfl, .inl rfl⟩
  obtain ⟨b1, e1, h1⟩ := bracket_step h0
  obtain ⟨b2, e2, h2⟩ := bracket_step (s := 64) h1
  obtain ⟨b3, e3, h3⟩ := bracket_step (s := 32) h2
  obtain ⟨b4, e4, h4⟩ := bracket_step (s := 16) h3
  obtain ⟨b5, e5, h5⟩ := bracket_step (s := 8) h4
  obtain ⟨b6, e6, h6⟩ := bracket_step (s := 4) h5
  obtain ⟨b7, e7, h7⟩ := bracket_step (s := 2) h6
  obtain ⟨b8, e8, h8⟩ := bracket_step (s := 1) h7
  refine ⟨b8, ?_, h8⟩
  unfold search
  rw [e1, e2, e3, e4, e5, e6, e7, e8]

/-! ## The exponents -/

theorem exponentK_zero : ∀ b < 256, (b = 0 ∨ 253 ≤ b) → ∀ x, search x = BitVec.ofNat 32 b → exponentK x = 0#32 := by
  intro b hb hc x hx
  have key : ∀ b < 256, (b = 0 ∨ 253 ≤ b) →
      (let s := Scalar.select (IntOp.cmpi .slt (BitVec.ofNat 32 b) 253#32) (BitVec.ofNat 32 b) 255#32
       Scalar.select (IntOp.andi (IntOp.cmpi .sgt s 0#32) (IntOp.cmpi .slt s 255#32)) (IntOp.subi s 126#32) 0#32) = 0#32 := by
    decide +kernel
  unfold exponentK exponentOf biasedOf
  rw [hx]; exact key b hb hc

theorem exponentK_normal : ∀ b, 1 ≤ b → b ≤ 252 → ∀ x, search x = BitVec.ofNat 32 b →
    IntOp.addi 127#32 (exponentK x) = BitVec.ofNat 32 (b + 1) ∧ IntOp.subi 127#32 (exponentK x) = BitVec.ofNat 32 (253 - b) := by
  intro b h1 h2 x hx
  have key : ∀ b < 253, 1 ≤ b →
      (let s := Scalar.select (IntOp.cmpi .slt (BitVec.ofNat 32 b) 253#32) (BitVec.ofNat 32 b) 255#32
       let e := Scalar.select (IntOp.andi (IntOp.cmpi .sgt s 0#32) (IntOp.cmpi .slt s 255#32)) (IntOp.subi s 126#32) 0#32
       IntOp.addi 127#32 e = BitVec.ofNat 32 (b + 1) ∧ IntOp.subi 127#32 e = BitVec.ofNat 32 (253 - b)) := by
    decide +kernel
  unfold exponentK exponentOf biasedOf
  rw [hx]; exact key b (by omega) h1

theorem ofBits_min : Ideal.ofBits .f32 0x00800000#32 = power (BitVec.ofNat 32 1) := rfl
theorem ofBits_max : Ideal.ofBits .f32 0x7E800000#32 = power (BitVec.ofNat 32 253) := rfl
theorem ofBits_one : Ideal.ofBits .f32 0x3F800000#32 = 1 := by
  have h : Ideal.ofBits .f32 0x3F800000#32 = power (BitVec.ofNat 32 127) := rfl
  rw [h, power_normal (by norm_num) (by norm_num)]; norm_num

/-- The reference's guard as a proposition. -/
theorem exponentR_eq (x : EReal) : exponentR x
    = if power (BitVec.ofNat 32 1) ≤ x ∧ x < power (BitVec.ofNat 32 253)
      then Ideal.liftRound Int.floor (Ideal.div (Ideal.log x) ((Real.log 2 : ℝ) : EReal)) + 1 else 0 := by
  unfold exponentR
  rw [ofBits_min, ofBits_max, ofBits_one, Ideal.ofBits_zero_f32]
  show Scalar.select (BitVec.ofBool (decide (_ ≤ x)) &&& BitVec.ofBool (decide (x < _))) _ _ = _
  have hand : ∀ a b : Bool, BitVec.ofBool a &&& BitVec.ofBool b = BitVec.ofBool (a && b) := by decide
  rw [hand, ← Bool.decide_and, select_ofBool]

/-- `⌊log₂ r⌋ + 1` of a real in the binade below `2 ^ k`. -/
theorem floor_log_two {r : ℝ} {k : Int} (h1 : (2 : ℝ) ^ (k - 1) ≤ r) (h2 : r < (2 : ℝ) ^ k) :
    ⌊Real.log r * (1 / Real.log 2)⌋ = k - 1 := by
  have hr : 0 < r := lt_of_lt_of_le (by positivity) h1
  have hl : 0 < Real.log 2 := Real.log_pos (by norm_num)
  rw [mul_one_div, Int.floor_eq_iff]
  constructor
  · rw [le_div_iff₀ hl, ← Real.log_zpow]
    exact Real.log_le_log (by positivity) h1
  · rw [div_lt_iff₀ hl]
    have : ((k - 1 : Int) : ℝ) + 1 = (k : ℝ) := by push_cast; ring
    rw [this, ← Real.log_zpow]
    exact Real.log_lt_log hr h2

/-- The reference's exponent in the binade of exponent field `b`. -/
theorem exponentR_normal {x : EReal} {b : ℕ} (h1 : 1 ≤ b) (h2 : b ≤ 252) (hx1 : power (BitVec.ofNat 32 b) ≤ x)
    (hx2 : x < power (BitVec.ofNat 32 (b + 1))) : exponentR x = (((b : ℝ) - 126 : ℝ) : EReal) := by
  rw [exponentR_eq, if_pos ⟨(power_mono h1 (by omega)).trans hx1, hx2.trans_le (power_mono (by omega) (by omega))⟩]
  rw [power_normal h1 (by omega)] at hx1
  rw [power_normal (by omega) (by omega)] at hx2
  induction x with
  | bot => simp at hx1
  | top => simp at hx2
  | coe r =>
    have hr1 : (2 : ℝ) ^ ((b : Int) - 127) ≤ r := by exact_mod_cast hx1
    have hr2 : r < (2 : ℝ) ^ (((b + 1 : ℕ) : Int) - 127) := by exact_mod_cast hx2
    have hr : 0 < r := lt_of_lt_of_le (by positivity) hr1
    have hf := floor_log_two (r := r) (k := (b : Int) - 126) (by convert hr1 using 2; ring)
      (by convert hr2 using 2; push_cast; ring)
    have hlog : Ideal.log (r : EReal) = ((Real.log r : ℝ) : EReal) := by
      show (if r ≤ 0 then ⊥ else ((Real.log r : ℝ) : EReal)) = _
      rw [if_neg (by linarith)]
    rw [hlog, Ideal.div_coe (Real.log_pos (by norm_num)).ne', ← EReal.coe_mul]
    show (((⌊Real.log r * (1 / Real.log 2)⌋ : ℤ) : ℝ) : EReal) + 1 = _
    rw [hf, ← EReal.coe_one, ← EReal.coe_add]
    exact congrArg _ (by push_cast; ring)

/-- The reference's exponent outside f32's exponent range. -/
theorem exponentR_zero {x : EReal} (h : x < power (BitVec.ofNat 32 1) ∨ power (BitVec.ofNat 32 253) ≤ x) :
    exponentR x = 0 := by
  rw [exponentR_eq, if_neg]
  rintro ⟨h1, h2⟩
  rcases h with h | h
  · exact absurd h1 (not_le.mpr h)
  · exact absurd h2 (not_lt.mpr h)

theorem exp2_int (k : Int) : Ideal.exp2 (((k : ℝ) : ℝ) : EReal) = (((2 : ℝ) ^ k : ℝ) : EReal) := by
  show ((Real.rpow 2 (k : ℝ) : ℝ) : EReal) = _
  congr 1
  exact Real.rpow_intCast 2 k

/-! ## The scales agree -/

/-- The scale and its inverse agree, for every extended real. -/
theorem scales_eq (x : EReal) : scaleK x = scaleR x ∧ inverseK x = inverseR x := by
  obtain ⟨b, hb, hle, hlow, hhigh⟩ := search_bracket x
  unfold scaleK inverseK scaleR inverseR
  rw [Ideal.ofBits_zero_f32, zero_sub]
  by_cases hn : 1 ≤ b ∧ b ≤ 252
  · obtain ⟨h1, h2⟩ := hn
    obtain ⟨ha, hs⟩ := exponentK_normal b h1 h2 x hb
    rw [ha, hs, power_normal (by omega) (by omega), power_normal (by omega) (by omega),
      exponentR_normal h1 h2 (hlow.resolve_left (by omega)) (hhigh.resolve_left (by omega))]
    constructor
    · rw [show ((b : ℝ) - 126 : ℝ) = (((b : Int) - 126 : Int) : ℝ) by push_cast; ring, exp2_int]
      congr 2
      push_cast; ring
    · rw [← EReal.coe_neg, show (-((b : ℝ) - 126) : ℝ) = ((126 - (b : Int) : Int) : ℝ) by push_cast; ring, exp2_int]
      congr 2
      omega
  · have hz : exponentK x = 0#32 := exponentK_zero b (by omega) (by omega) x hb
    have hr : exponentR x = 0 := by
      apply exponentR_zero
      by_cases h0 : b = 0
      · subst h0
        exact .inl (hhigh.resolve_left (by omega))
      · exact .inr ((power_mono (by omega) (by omega)).trans (hlow.resolve_left h0))
    rw [hz, hr, neg_zero]
    have h1 : power (127#32) = 1 := ofBits_one
    have h2 : Ideal.exp2 0 = 1 := by
      have := exp2_int 0
      simpa using this
    rw [h2]
    exact ⟨h1, h1⟩

theorem scaleK_eq (x : EReal) : scaleK x = scaleR x := (scales_eq x).1
theorem inverseK_eq (x : EReal) : inverseK x = inverseR x := (scales_eq x).2

/-! ## The quantiser of one row -/

/-- Row `(b, s)` of the dequantised products `(x · w) · x_scale · w_scale`. -/
def product (x : (⟨3, ![2, 1536, 6016]⟩ : Shape).Idx → EReal) (xs : (⟨3, ![2, 1536, 1]⟩ : Shape).Idx → EReal)
    (w : (⟨2, ![6016, 1280]⟩ : Shape).Idx → EReal) (ws : (⟨2, ![1, 1280]⟩ : Shape).Idx → EReal)
    (b : Fin 2) (s : Fin 1536) (o : Fin 1280) : EReal :=
  (∑ k : Fin 6016, x (ix3 b s k) * w (ix2 k o)) * xs (ix3 b s 0) * ws (ix2 0 o)

/-- A row's largest magnitude times `1/448`. -/
def level (y : Fin 1280 → EReal) : EReal :=
  Finset.fold max (Ideal.ofBits .f32 0xFF800000#32) (fun o => FloatOps.absf (F := Ideal) (φ := .f32) (y o)) Finset.univ
    * Ideal.ofBits .f32 0x3B124925#32

/-- A row's codes as the kernel forms them: the row times the inverse scale, clipped to ±448. -/
def codeK (y : Fin 1280 → EReal) (o : Fin 1280) : EReal :=
  min (Ideal.ofBits .f32 0x43E00000#32) (max (Ideal.ofBits .f32 0xC3E00000#32) (y o * inverseK (level y)))

end Cert.Exponent

end
-- ==== Proof.Block.lean ====
/-
  What the kernel's body stores, read at an index.

  The body treats its block of 384 rows as three groups of 128 rows with the same text. Each group is read here as the
  quantiser of `Cert.Exponent` on the row's dequantised products.
-/
module

public import proofs.«01_k».proof.Proof.Gen.KernelIdeal.Frame
public import proofs.«01_k».proof.Proof.Exponent
public import Idealize.ShloMosaic.Lib.Pointwise
public import Idealize.ShloMosaic.Lib.Pipeline.Value

@[expose] public section

set_option maxRecDepth 16384

noncomputable section

namespace Cert.Block

open Idealize.ShloMosaic Cert.KernelIdeal Cert.KernelIdeal.Gen Cert.Exponent

/-! ## The exponent of each group -/

/-- One step of the search on a group's 128 rows. -/
theorem step_eq (x : FVec Ideal S128x1 .f32) (b : IVec S128x1 32) (s : BitVec 32) :
    select (cmpf .oge x (bitcastToFloat .f32 (shli (addi b (broadcast S128x1 s)) (broadcast S128x1 23#32) : IVec S128x1 32)))
        (addi b (broadcast S128x1 s)) b
      = fun i => step (x i) s (b i) := by
  funext i
  pointwise [step, power]

/-- The exponent from the searched biased exponent. -/
theorem exponentOf_eq (b : IVec S128x1 32) :
    select (andi (cmpi .sgt (select (cmpi .slt b (broadcast S128x1 253#32)) b (broadcast S128x1 255#32)) (broadcast S128x1 0#32))
          (cmpi .slt (select (cmpi .slt b (broadcast S128x1 253#32)) b (broadcast S128x1 255#32)) (broadcast S128x1 255#32)))
        (subi (select (cmpi .slt b (broadcast S128x1 253#32)) b (broadcast S128x1 255#32)) (broadcast S128x1 126#32))
        (broadcast S128x1 0#32)
      = fun i => exponentOf (b i) := by
  funext i
  pointwise [exponentOf, biasedOf]

section Exponent

variable (x0 : Vec Ideal S384x6016 .fp8e4m3) (x1 : Vec Ideal S1x1x384 .f32) (x2 : Vec Ideal S6016x1280 .fp8e4m3)
  (x3 : Vec Ideal S1x1280 .f32)

/-- The first group's exponents. -/
theorem exponent_first : k0_pay13 (k0_pay37 x0 x1 x2 x3) (k0_pay41 x0 x1 x2 x3) (k0_pay42 x0 x1 x2 x3) (k0_pay43 x0 x1 x2 x3)
    = fun i => exponentK (k0_pay37 x0 x1 x2 x3 i) := by
  unfold k0_pay13 k0_pay41 k0_pay42 k0_pay43 k0_pay11 k0_pay10 k0_pay12 k0_pay40 k0_pay9 k0_pay39 k0_pay38 k0_pay8 k0_pay7 k0_pay37
  generalize k0_pay6 (View.ld x0 r0_0) (View.ld x2 r0_1) (View.ld x1 r0_2) (View.ld x3 r0_3) = x
  simp only [step_eq, exponentOf_eq]
  rfl

/-- The second group's exponents. -/
theorem exponent_second : k0_pay24 (k0_pay44 x0 x1 x2 x3) (k0_pay47 x0 x1 x2 x3) (k0_pay48 x0 x1 x2 x3) 23#32
    = fun i => exponentK (k0_pay44 x0 x1 x2 x3 i) := by
  unfold k0_pay24 k0_pay47 k0_pay48 k0_pay23 k0_pay22 k0_pay45 k0_pay46 k0_pay21 k0_pay20
  generalize k0_pay44 x0 x1 x2 x3 = x
  simp only [step_eq, exponentOf_eq]
  rfl

/-- The third group's exponents. -/
theorem exponent_third : k0_pay1 (k0_pay53 x0 x1 x2 x3) (k0_pay54 x0 x1 x2 x3) (k0_pay55 x0 x1 x2 x3)
    = fun i => exponentK (k0_pay50 x0 x1 x2 x3 i) := by
  unfold k0_pay1 k0_pay53 k0_pay54 k0_pay55 k0_pay35 k0_pay34 k0_pay33 k0_pay51 k0_pay52 k0_pay32 k0_pay31 k0_pay50
  generalize k0_pay30 (k0_pay49 x0 x1 x2 x3) = x
  simp only [step_eq, exponentOf_eq]
  rfl

end Exponent

/-! ## The pieces of a group at an index -/

/-- A sum over the lanes masked to one lane is that lane. -/
theorem sum_lane (r : Fin 128) (v : Fin 128 → EReal) :
    ∑ k : Fin 128, Scalar.select (IntOp.cmpi .eq (BitVec.ofNat 32 r.val) (BitVec.ofNat 32 k.val)) (v k) 0 = v r := by
  have h : ∀ k : Fin 128, Scalar.select (IntOp.cmpi .eq (BitVec.ofNat 32 r.val) (BitVec.ofNat 32 k.val)) (v k) 0
      = if r = k then v k else 0 := by
    intro k
    have e : IntOp.cmpi .eq (BitVec.ofNat 32 r.val) (BitVec.ofNat 32 k.val) = BitVec.ofBool (decide (r = k)) := by
      revert r k; decide +kernel
    rw [e, select_ofBool]
  simp only [h, Finset.sum_ite_eq, Finset.mem_univ, if_true]

/-- The same with the comparison's operands the other way round. -/
theorem sum_lane' (r : Fin 128) (v : Fin 128 → EReal) :
    ∑ k : Fin 128, Scalar.select (IntOp.cmpi .eq (BitVec.ofNat 32 k.val) (BitVec.ofNat 32 r.val)) (v k) 0 = v r := by
  rw [← sum_lane r v]
  refine Finset.sum_congr rfl fun k _ => ?_
  rw [show IntOp.cmpi .eq (BitVec.ofNat 32 k.val) (BitVec.ofNat 32 r.val)
    = IntOp.cmpi .eq (BitVec.ofNat 32 r.val) (BitVec.ofNat 32 k.val) from by revert r k; decide +kernel]

section Pieces

variable (x0 : Vec Ideal S384x6016 .fp8e4m3) (x1 : Vec Ideal S1x1x384 .f32) (x2 : Vec Ideal S6016x1280 .fp8e4m3)
  (x3 : Vec Ideal S1x1280 .f32)

/-- Row `r` of the block's dequantised products. -/
def row (r : Fin 384) (o : Fin 1280) : EReal :=
  (∑ k : Fin 6016, x0 (ix2 r k) * x2 (ix2 k o)) * x1 (ix3 0 0 r) * x3 (ix2 0 o)

/-- The first group's products. -/
theorem product_first (r : Fin 128) (o : Fin 1280) :
    k0_pay5 (View.ld x0 r0_0) (View.ld x2 r0_1) (View.ld x1 r0_2) (View.ld x3 r0_3) (ix2 r o)
      = row x0 x1 x2 x3 ⟨r.val, by omega⟩ o := by
  pointwise [k0_pay5, k0_pay4, row]
  rw [sum_lane r fun k => x1 (ix3 0 0 ⟨k.val, by omega⟩)]

/-- The second group's products. -/
theorem product_second (r : Fin 128) (o : Fin 1280) :
    k0_pay18 (k0_pay36 x0 x1 x2 x3) (View.ld x1 r0_5) (View.ld x3 r0_3) (ix2 r o)
      = row x0 x1 x2 x3 ⟨128 + r.val, by omega⟩ o := by
  pointwise [k0_pay18, k0_pay36, k0_pay4, row]
  rw [sum_lane r fun k => x1 (ix3 0 0 ⟨128 + k.val, by omega⟩)]

/-- The third group's products. -/
theorem product_third (r : Fin 128) (o : Fin 1280) :
    k0_pay49 x0 x1 x2 x3 (ix2 r o) = row x0 x1 x2 x3 ⟨256 + r.val, by omega⟩ o := by
  pointwise [k0_pay49, k0_pay29, k0_pay36, k0_pay4, row]
  rw [sum_lane r fun k => x1 (ix3 0 0 ⟨256 + k.val, by omega⟩)]

/-- The first group's levels. -/
theorem level_first (r : Fin 128) :
    k0_pay37 x0 x1 x2 x3 (ix2 r 0) = level (row x0 x1 x2 x3 ⟨r.val, by omega⟩) := by
  pointwise [k0_pay37, k0_pay6, level]
  simp only [product_first]

/-- The second group's levels. -/
theorem level_second (r : Fin 128) :
    k0_pay44 x0 x1 x2 x3 (ix2 r 0) = level (row x0 x1 x2 x3 ⟨128 + r.val, by omega⟩) := by
  have h : k0_pay44 x0 x1 x2 x3 = k0_pay30 (k0_pay18 (k0_pay36 x0 x1 x2 x3) (View.ld x1 r0_5) (View.ld x3 r0_3)) := rfl
  rw [h]
  pointwise [k0_pay30, level]
  simp only [product_second]

/-- The third group's levels. -/
theorem level_third (r : Fin 128) :
    k0_pay50 x0 x1 x2 x3 (ix2 r 0) = level (row x0 x1 x2 x3 ⟨256 + r.val, by omega⟩) := by
  pointwise [k0_pay50, k0_pay30, level]
  simp only [product_third]

/-! ## The codes and the scales stored -/

/-- The first group's codes. -/
theorem code_first (r : Fin 128) (o : Fin 1280) :
    k0_pay16 (k0_pay15 (k0_pay5 (View.ld x0 r0_0) (View.ld x2 r0_1) (View.ld x1 r0_2) (View.ld x3 r0_3)) (k0_pay37 x0 x1 x2 x3)
        (k0_pay41 x0 x1 x2 x3) (k0_pay42 x0 x1 x2 x3) (k0_pay43 x0 x1 x2 x3)) (ix2 r o)
      = codeK (row x0 x1 x2 x3 ⟨r.val, by omega⟩) o := by
  unfold k0_pay16 k0_pay15
  rw [exponent_first]
  pointwise [codeK, inverseK, power]
  rw [product_first, level_first]

/-- The second group's codes. -/
theorem code_second (r : Fin 128) (o : Fin 1280) :
    k0_pay27 (k0_pay18 (k0_pay36 x0 x1 x2 x3) (View.ld x1 r0_5) (View.ld x3 r0_3))
        (k0_pay24 (k0_pay44 x0 x1 x2 x3) (k0_pay47 x0 x1 x2 x3) (k0_pay48 x0 x1 x2 x3) 23#32) k0_pay26 (ix2 r o)
      = codeK (row x0 x1 x2 x3 ⟨128 + r.val, by omega⟩) o := by
  rw [exponent_second]
  pointwise [k0_pay27, k0_pay26, codeK, inverseK, power]
  rw [product_second, level_second]

/-- The third group's codes. -/
theorem code_third (r : Fin 128) (o : Fin 1280) :
    k0_pay2 (k0_pay49 x0 x1 x2 x3) (k0_pay53 x0 x1 x2 x3) (k0_pay54 x0 x1 x2 x3) (k0_pay55 x0 x1 x2 x3) (ix2 r o)
      = codeK (row x0 x1 x2 x3 ⟨256 + r.val, by omega⟩) o := by
  unfold k0_pay2
  rw [exponent_third]
  pointwise [codeK, inverseK, power]
  rw [product_third, level_third]

/-- The first group's scales. -/
theorem scale_first (r : Fin 128) :
    k0_pay17 (k0_pay14 (k0_pay37 x0 x1 x2 x3) (k0_pay41 x0 x1 x2 x3) (k0_pay42 x0 x1 x2 x3) (k0_pay43 x0 x1 x2 x3)) (ix3 0 0 r)
      = scaleK (level (row x0 x1 x2 x3 ⟨r.val, by omega⟩)) := by
  unfold k0_pay14
  rw [exponent_first]
  pointwise [k0_pay17, scaleK, power]
  rw [sum_lane', level_first]

/-- The second group's scales. -/
theorem scale_second (r : Fin 128) :
    k0_pay28 (k0_pay25 (k0_pay44 x0 x1 x2 x3) (k0_pay47 x0 x1 x2 x3) (k0_pay48 x0 x1 x2 x3) 23#32) (ix3 0 0 r)
      = scaleK (level (row x0 x1 x2 x3 ⟨128 + r.val, by omega⟩)) := by
  unfold k0_pay25
  rw [exponent_second]
  pointwise [k0_pay28, scaleK, power]
  rw [sum_lane', level_second]

/-- The third group's scales. -/
theorem scale_third (r : Fin 128) :
    k0_pay3 (F := Ideal) (k0_pay53 x0 x1 x2 x3) (k0_pay54 x0 x1 x2 x3) (k0_pay55 x0 x1 x2 x3) (ix3 0 0 r)
      = scaleK (level (row x0 x1 x2 x3 ⟨256 + r.val, by omega⟩)) := by
  unfold k0_pay3
  rw [exponent_third]
  pointwise [scaleK, power]
  rw [sum_lane', level_third]

/-! ## The two output blocks -/

/-- The block of codes: each row quantised. -/
theorem out_codes : out0_4 x0 x1 x2 x3 = fun j => codeK (row x0 x1 x2 x3 (j 0)) (j 1) := by
  funext y
  unfold out0_4
  refine View.canon_apply_of_pieces (Val := Elt Ideal) (fun j => codeK (row x0 x1 x2 x3 (j 0)) (j 1)) _ ?_ y (cover0_4 _ _ _ y)
  intro p hp i
  simp only [List.mem_cons, List.mem_nil_iff, or_false] at hp
  rcases hp with rfl | rfl | rfl
  all_goals
    obtain ⟨r, o, rfl⟩ : ∃ (r : Fin 128) (o : Fin 1280), i = ix2 r o := ⟨i 0, i 1, eq_ix2 i⟩
  · refine (code_third x0 x1 x2 x3 r o).trans ?_
    show _ = View.ld (Val := Elt Ideal) (e' := .fp8e4m3) (fun j => codeK (row x0 x1 x2 x3 (j 0)) (j 1)) r0_8 (ix2 r o)
    pointwise []
  · refine (code_second x0 x1 x2 x3 r o).trans ?_
    show _ = View.ld (Val := Elt Ideal) (e' := .fp8e4m3) (fun j => codeK (row x0 x1 x2 x3 (j 0)) (j 1)) r0_6 (ix2 r o)
    pointwise []
  · refine (code_first x0 x1 x2 x3 r o).trans ?_
    show _ = View.ld (Val := Elt Ideal) (e' := .fp8e4m3) (fun j => codeK (row x0 x1 x2 x3 (j 0)) (j 1)) r0_4 (ix2 r o)
    pointwise []

/-- The block of scales: each row's scale, along the lanes. -/
theorem out_scales : out0_5 x0 x1 x2 x3 = fun j => scaleK (level (row x0 x1 x2 x3 (j 2))) := by
  funext y
  unfold out0_5
  refine View.canon_apply_of_pieces (Val := Elt Ideal) (fun j => scaleK (level (row x0 x1 x2 x3 (j 2)))) _ ?_ y (cover0_5 _ _ _ y)
  intro p hp i
  simp only [List.mem_cons, List.mem_nil_iff, or_false] at hp
  rcases hp with rfl | rfl | rfl
  all_goals
    obtain ⟨r, rfl⟩ : ∃ r : Fin 128, i = ix3 0 0 r :=
      ⟨i 2, (eq_ix3 i).trans (congrArg₂ (fun a b => ix3 a b (i 2)) (Subsingleton.elim _ _) (Subsingleton.elim _ _))⟩
  · refine (scale_third x0 x1 x2 x3 r).trans ?_
    show _ = View.ld (Val := Elt Ideal) (e' := .f32) (fun j => scaleK (level (row x0 x1 x2 x3 (j 2)))) r0_7 (ix3 0 0 r)
    pointwise []
  · refine (scale_second x0 x1 x2 x3 r).trans ?_
    show _ = View.ld (Val := Elt Ideal) (e' := .f32) (fun j => scaleK (level (row x0 x1 x2 x3 (j 2)))) r0_5 (ix3 0 0 r)
    pointwise []
  · refine (scale_first x0 x1 x2 x3 r).trans ?_
    show _ = View.ld (Val := Elt Ideal) (e' := .f32) (fun j => scaleK (level (row x0 x1 x2 x3 (j 2)))) r0_2 (ix3 0 0 r)
    pointwise []

end Pieces

end Cert.Block
-- ==== Proof.Array.lean ====
/-
  The kernel's two results, read at an index.

  The eight grid points' blocks tile the two output arrays, so each array is one function of the argument arrays; the host's
  reshape and transpose after the region then give the results `main_v3` and `main_v4`.
-/
module

public import proofs.«01_k».proof.Proof.Block
public import Idealize.ShloMosaic.Lib.StableHlo.ReadAt
public import Idealize.ShloMosaic.Lib.Pipeline.ValueKit

@[expose] public section

set_option maxRecDepth 16384

noncomputable section

namespace Cert.Array

open Idealize.ShloMosaic Idealize.ShloMosaic.TcCoe Idealize.SL.Sem Cert.KernelIdeal Cert.KernelIdeal.Gen Cert.Exponent
open Idealize.ShloMosaic.Pipeline (Dat)

variable (m : (ℓ : Loc nD τ sig) → Buf (Elt Ideal) ℓ) (ρ : Dev nD → PrngReg)

/-- The windows' block indices at each of the eight points. -/
theorem idx : ∀ t : Fin cfg0.N,
    win0_0.index t = ![t.val, 0] ∧ win0_1.index t = ![t.val / 4, 0, t.val % 4] ∧ win0_2.index t = ![0, 0]
      ∧ win0_3.index t = ![0, 0] ∧ win0_4.index t = ![t.val, 0] ∧ win0_5.index t = ![t.val / 4, 0, t.val % 4] :=
  (by decide +kernel : ∀ t : Fin grid0.N, _)

/-! ## The input blocks at an index -/

theorem point_lt (t : Fin cfg0.N) : t.val < 8 := by
  have h := t.isLt; exact h.trans_eq N_0

theorem block0 (c : Dev nD) (t : Fin cfg0.N) (r : Fin 384) (k : Fin 6016) :
    iblk m c 0 t (ix2 r k) = V m c main_v0 (ix2 ⟨t.val * 384 + r.val, by have := point_lt t; omega⟩ k) := by
  blk_ext [iblk, idx t]

theorem block1 (c : Dev nD) (t : Fin cfg0.N) (r : Fin 384) :
    iblk m c 1 t (ix3 0 0 r)
      = V m c main_v1 (ix3 ⟨t.val / 4, by have := point_lt t; omega⟩ 0 ⟨t.val % 4 * 384 + r.val, by omega⟩) := by
  blk_ext [iblk, idx t]

theorem block2 (c : Dev nD) (t : Fin cfg0.N) : iblk m c 2 t = V m c main_arg2 := by
  funext j
  blk_ext [iblk, idx t]

theorem block3 (c : Dev nD) (t : Fin cfg0.N) : iblk m c 3 t = V m c main_arg3 := by
  funext j
  blk_ext [iblk, idx t]

/-- The reshaped codes the first window reads. -/
theorem V_v0 (c : Dev nD) (b : Fin 2) (s : Fin 1536) (k : Fin 6016) (h) :
    V m c main_v0 (ix2 ⟨b.val * 1536 + s.val, h⟩ k) = m ((c : Thread nD τ).loc main_arg0) (ix3 b s k) := by
  unfold V V0
  after_reads_at

/-- The transposed scales the second window reads. -/
theorem V_v1 (c : Dev nD) (b : Fin 2) (s : Fin 1536) :
    V m c main_v1 (ix3 b 0 s) = m ((c : Thread nD τ).loc main_arg1) (ix3 b s 0) := by
  unfold V V0
  after_reads_at

/-! ## The output arrays -/

/-- The dequantised products of device `c`'s arguments. -/
abbrev products (c : Dev nD) (b : Fin 2) (s : Fin 1536) : Fin 1280 → EReal :=
  product (m ((c : Thread nD τ).loc main_arg0)) (m ((c : Thread nD τ).loc main_arg1)) (m ((c : Thread nD τ).loc main_arg2))
    (m ((c : Thread nD τ).loc main_arg3)) b s

/-- Row `r` of point `t`'s block is row `(t / 4, t % 4 · 384 + r)` of the products. -/
theorem row_eq (c : Dev nD) (t : Fin cfg0.N) (r : Fin 384) :
    Block.row (iblk m c 0 t) (iblk m c 1 t) (iblk m c 2 t) (iblk m c 3 t) r
      = products m c ⟨t.val / 4, by have := point_lt t; omega⟩ ⟨t.val % 4 * 384 + r.val, by omega⟩ := by
  have ht := point_lt t
  funext o
  unfold Block.row products product
  rw [block1, block2, block3, V_v1, V_main_arg2, V_main_arg3]
  congr 2
  refine Finset.sum_congr rfl fun k _ => ?_
  rw [block0]
  congr 1
  rw [← V_v0 m c ⟨t.val / 4, by omega⟩ ⟨t.val % 4 * 384 + r.val, by omega⟩ k (by dsimp only; omega)]
  congr 2
  exact Fin.ext (by dsimp only; omega)

/-- The array of codes after the run. -/
def codes (c : Dev nD) : S3072x1280.Idx → EReal := fun j =>
  codeK (products m c ⟨(j 0).val / 1536, by have h : (j 0).val < 3072 := (j 0).isLt; omega⟩ ⟨(j 0).val % 1536, by omega⟩) (j 1)

/-- The array of scales after the run. -/
def scales (c : Dev nD) : S2x1x1536.Idx → EReal := fun j => scaleK (level (products m c (j 0) (j 2)))

theorem emb4 (t : Fin cfg0.N) (r : Fin 384) (o : Fin 1280) :
    ((cfg0.win 4).blk t).view.emb (ix2 r o) = ix2 (n0 := 3072) (n1 := 1280) ⟨t.val * 384 + r.val, by have := point_lt t; omega⟩ o := by
  blk_ext [idx t]

theorem emb5 (t : Fin cfg0.N) (r : Fin 384) :
    ((cfg0.win 5).blk t).view.emb (ix3 0 0 r)
      = ix3 (n0 := 2) (n1 := 1) (n2 := 1536) ⟨t.val / 4, by have := point_lt t; omega⟩ 0 ⟨t.val % 4 * 384 + r.val, by omega⟩ := by
  blk_ext [idx t]

/-- Point `t` writes back its block of the codes. -/
theorem flushed4 (c : Dev nD) (t : Fin cfg0.N) :
    (dats m 0 c).flushed 4 t = ((cfg0.win 4).blk t).view.read (Elt Ideal) (codes m c) := by
  have ht := point_lt t
  show (cfg0.win 4).cut (grid0.coords t) ((dats m 0 c).after 4 t) = _
  rw [after0_4, Block.out_codes]
  funext j
  obtain ⟨r, o, rfl⟩ : ∃ (r : Fin 384) (o : Fin 1280), j = ix2 r o := ⟨j 0, j 1, eq_ix2 j⟩
  show codeK (Block.row (iblk m c 0 t) (iblk m c 1 t) (iblk m c 2 t) (iblk m c 3 t) r) o
    = codes m c (((cfg0.win 4).blk t).view.emb (ix2 r o))
  rw [emb4, row_eq]
  show _ = codeK (products m c ⟨(t.val * 384 + r.val) / 1536, _⟩ ⟨(t.val * 384 + r.val) % 1536, _⟩) o
  congr 2 <;> exact Fin.ext (by dsimp only; omega)

/-- Point `t` writes back its block of the scales. -/
theorem flushed5 (c : Dev nD) (t : Fin cfg0.N) :
    (dats m 0 c).flushed 5 t = ((cfg0.win 5).blk t).view.read (Elt Ideal) (scales m c) := by
  show (cfg0.win 5).cut (grid0.coords t) ((dats m 0 c).after 5 t) = _
  rw [after0_5, Block.out_scales]
  funext j
  obtain ⟨r, rfl⟩ : ∃ r : Fin 384, j = ix3 0 0 r :=
    ⟨j 2, (eq_ix3 j).trans (congrArg₂ (fun a b => ix3 a b (j 2)) (Subsingleton.elim _ _) (Subsingleton.elim _ _))⟩
  show scaleK (level (Block.row (iblk m c 0 t) (iblk m c 1 t) (iblk m c 2 t) (iblk m c 3 t) r))
    = scales m c (((cfg0.win 5).blk t).view.emb (ix3 0 0 r))
  rw [emb5, row_eq]
  rfl

/-- The blocks of codes tile their array. -/
theorem cover4 (i : S3072x1280.Idx) :
    ∃ t : Fin cfg0.N, (cfg0.win 4).flush t = true ∧ i ∈ ((cfg0.win 4).blk t).view.set := by
  obtain ⟨n, o, rfl⟩ : ∃ (n : Fin 3072) (o : Fin 1280), i = ix2 n o := ⟨i 0, i 1, eq_ix2 i⟩
  let t : Fin cfg0.N := ⟨n.val / 384, lt_of_lt_of_eq (by omega : n.val / 384 < 8) N_0.symm⟩
  have h := ((cfg0.win 4).blk t).view.emb_mem_set (ix2 (n0 := 384) (n1 := 1280) ⟨n.val % 384, by omega⟩ o)
  refine ⟨t, flush0_4 _, ?_⟩
  rw [emb4] at h
  have e : (⟨t.val * 384 + n.val % 384, by have := point_lt t; omega⟩ : Fin 3072) = n :=
    Fin.ext (by show n.val / 384 * 384 + n.val % 384 = n.val; omega)
  rw [e] at h
  exact h

/-- The blocks of scales tile their array. -/
theorem cover5 (i : S2x1x1536.Idx) :
    ∃ t : Fin cfg0.N, (cfg0.win 5).flush t = true ∧ i ∈ ((cfg0.win 5).blk t).view.set := by
  obtain ⟨b, s, rfl⟩ : ∃ (b : Fin 2) (s : Fin 1536), i = ix3 b 0 s :=
    ⟨i 0, i 2, (eq_ix3 i).trans (congrArg (fun a => ix3 (i 0) a (i 2)) (Subsingleton.elim _ _))⟩
  let t : Fin cfg0.N := ⟨b.val * 4 + s.val / 384, lt_of_lt_of_eq (by omega : b.val * 4 + s.val / 384 < 8) N_0.symm⟩
  have h := ((cfg0.win 5).blk t).view.emb_mem_set (ix3 (n0 := 1) (n1 := 1) (n2 := 384) 0 0 ⟨s.val % 384, by omega⟩)
  refine ⟨t, flush0_5 _, ?_⟩
  rw [emb5] at h
  have e0 : (⟨t.val / 4, by have := point_lt t; omega⟩ : Fin 2) = b :=
    Fin.ext (by show (b.val * 4 + s.val / 384) / 4 = b.val; omega)
  have e2 : (⟨t.val % 4 * 384 + s.val % 384, by omega⟩ : Fin 1536) = s :=
    Fin.ext (by show (b.val * 4 + s.val / 384) % 4 * 384 + s.val % 384 = s.val; omega)
  rw [e0, e2] at h
  exact h

/-- The array of codes after the region. -/
theorem final4 (c : Dev nD) : (dats m 0 c).arrAt 4 cfg0.N = codes m c :=
  (dats m 0 c).arrAt_eq_of_cover 4 (codes m c) (fun t _ => flushed4 m c t) cover4

/-- The array of scales after the region. -/
theorem final5 (c : Dev nD) : (dats m 0 c).arrAt 5 cfg0.N = scales m c :=
  (dats m 0 c).arrAt_eq_of_cover 5 (scales m c) (fun t _ => flushed5 m c t) cover5

/-! ## The results after the host's last two operations -/

/-- The codes as returned: the array of codes reshaped. -/
theorem result_codes (c : Dev nD) :
    Pipeline.afterTail₀ cfgs (dats m) 0 (V0 m) [hostOps1] c main_v3
      = fun j : S2x1536x1280.Idx => codeK (products m c (j 0) (j 1)) (j 2) := by
  funext j
  unfold Pipeline.afterTail₀
  after_reads_at
  obtain ⟨b, s, o, rfl⟩ : ∃ (b : Fin 2) (s : Fin 1536) (o : Fin 1280), j = ix3 b s o := ⟨j 0, j 1, j 2, eq_ix3 j⟩
  refine (congrFun ((Pipeline.withArrays_arr spec0 launch0.win.arr_inj c (V0 m c)
    (fun w => (dats m 0 c).arrAt w cfg0.N) 4).trans (final4 m c)) _).trans ?_
  show codeK (products m c ⟨(b.val * 1536 + s.val) / 1536, _⟩ ⟨(b.val * 1536 + s.val) % 1536, _⟩) o = codeK (products m c b s) o
  congr 2 <;> exact Fin.ext (by dsimp only; omega)

/-- The scales as returned: the array of scales transposed. -/
theorem result_scales (c : Dev nD) :
    Pipeline.afterTail₀ cfgs (dats m) 0 (V0 m) [hostOps1] c main_v4
      = fun j : S2x1536x1.Idx => scaleK (level (products m c (j 0) (j 1))) := by
  funext j
  unfold Pipeline.afterTail₀
  after_reads_at
  exact congrFun ((Pipeline.withArrays_arr spec0 launch0.win.arr_inj c (V0 m c)
    (fun w => (dats m 0 c).arrAt w cfg0.N) 5).trans (final5 m c)) _

/-- The run: both results as functions of the arguments, the arguments unchanged. -/
theorem run : θ_run defs (onTc (τ := τ) (main (F := Ideal))) ⟨m, fun _ => 0, ρ⟩ fun r => ∀ c : Dev nD,
      r.2.mem ((c : Thread nD τ).loc main_v3) = (fun j : S2x1536x1280.Idx => codeK (products m c (j 0) (j 1)) (j 2))
      ∧ r.2.mem ((c : Thread nD τ).loc main_v4) = (fun j : S2x1536x1.Idx => scaleK (level (products m c (j 0) (j 1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans (result_codes m c),
      ((h c).2 main_v4 (Pipeline.mem_restRefs_of main_v4 (by decide) (by decide))).trans (result_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Array
-- ==== Proof.Reference.lean ====
/-
  The reference's two results, read at an index: each row of the dequantised products quantised by `Cert.Exponent`'s
  `scaleR` and `inverseR`.
-/
module

public import proofs.«01_k».proof.Proof.Gen.ReferenceIdeal.Value
public import proofs.«01_k».proof.Proof.Exponent
public import Idealize.ShloMosaic.Lib.Pointwise

@[expose] public section

set_option maxRecDepth 16384

noncomputable section

namespace Cert.Reference

open Idealize.ShloMosaic Cert.ReferenceIdeal Cert.ReferenceIdeal.Gen Cert.Exponent

variable (x : Vec Ideal S2x1536x6016 .fp8e4m3) (xs : Vec Ideal S2x1536x1 .f32) (w : Vec Ideal S6016x1280 .fp8e4m3)
  (ws : Vec Ideal S1x1280 .f32)

/-- The named constant is log 2. -/
theorem ln2 : Named.named (F := Ideal) (φ := .f32) κ "ln2" 0x3F317218#32 = ((Real.log 2 : ℝ) : EReal) :=
  IdealRules.named_const.ideal_named_scalar _ _ _ _ rfl

/-- The products. -/
theorem product_eq (b : Fin 2) (s : Fin 1536) (o : Fin 1280) :
    k0_pay1 x w xs ws (ix3 b s o) = product x xs w ws b s o := by
  pointwise [k0_pay1, product]

/-! ## The quantiser's operations on any array -/

section Ops

variable (y : FVec Ideal S2x1536x1280 .f32) (v e : FVec Ideal S2x1536x1 .f32) (b : Fin 2) (s : Fin 1536)

/-- A row's largest magnitude. -/
theorem maximum_at :
    shapeCast S2x1536x1 (multiReduction .maximumf [2] S2x1536 (absf y) 0xFF800000#32 reduces_S2x1536x1280_S2x1536 (.inl rfl) rfl)
        shapeCasts_S2x1536_S2x1536x1 (ix3 b s 0)
      = Finset.fold max (Ideal.ofBits .f32 0xFF800000#32) (fun o => FloatOps.absf (F := Ideal) (φ := .f32) (y (ix3 b s o)))
          Finset.univ := by
  pointwise []

/-- A product by a constant. -/
theorem mulf_at (c : EReal) : mulf v (broadcast S2x1536x1 c) (ix3 b s 0) = v (ix3 b s 0) * c := by
  pointwise []

/-- A row's level. -/
theorem level_at :
    mulf (shapeCast S2x1536x1 (multiReduction .maximumf [2] S2x1536 (absf y) 0xFF800000#32 reduces_S2x1536x1280_S2x1536 (.inl rfl) rfl)
        shapeCasts_S2x1536_S2x1536x1) (broadcast S2x1536x1 (Scalar.ofBits .f32 0x3B124925#32)) (ix3 b s 0)
      = level fun o => y (ix3 b s o) := by
  have h := maximum_at y b s
  revert h
  generalize shapeCast S2x1536x1 (multiReduction .maximumf [2] S2x1536 (absf y) 0xFF800000#32
    reduces_S2x1536x1280_S2x1536 (.inl rfl) rfl) shapeCasts_S2x1536_S2x1536x1 = u
  intro h
  refine (mulf_at u b s _).trans ?_
  unfold level
  exact congrArg (fun a => a * Ideal.ofBits .f32 0x3B124925#32) h

/-- The exponent of a level. -/
theorem exponent_at :
    select (andi (cmpf .oge v (broadcast S2x1536x1 (Scalar.ofBits .f32 0x00800000#32)))
          (cmpf .olt v (broadcast S2x1536x1 (Scalar.ofBits .f32 0x7E800000#32))))
        (addf (floor (divf (log v) (broadcast S2x1536x1 (Named.named κ "ln2" 0x3F317218#32))))
          (broadcast S2x1536x1 (Scalar.ofBits .f32 0x3F800000#32)))
        (broadcast S2x1536x1 (Scalar.ofBits .f32 0x00000000#32)) (ix3 b s 0)
      = exponentR (v (ix3 b s 0)) := by
  unfold exponentR
  rw [← ln2]
  rfl

/-- The power of two of an exponent. -/
theorem exp2_at : exp2 e (ix3 b s 0) = Ideal.exp2 (e (ix3 b s 0)) := rfl

/-- A code: the value times the inverse power of two, clipped. -/
theorem code_at (o : Fin 1280) :
    truncf .fp8e4m3 (minimumf (broadcast S2x1536x1280 (Scalar.ofBits .f32 0x43E00000#32))
        (maximumf (broadcast S2x1536x1280 (Scalar.ofBits .f32 0xC3E00000#32))
          (mulf y (broadcastTo S2x1536x1280 (exp2 (subf (broadcast S2x1536x1 (Scalar.ofBits .f32 0x00000000#32)) e))
            broadcasts_S2x1536x1_S2x1536x1280)))) bitsLt_fp8e4m3_f32 (ix3 b s o)
      = min (Ideal.ofBits .f32 0x43E00000#32) (max (Ideal.ofBits .f32 0xC3E00000#32)
          (y (ix3 b s o) * Ideal.exp2 (Ideal.ofBits .f32 0x00000000#32 - e (ix3 b s 0)))) := by
  pointwise []
  rfl

end Ops

/-- The exponent of each row. -/
theorem exponent_eq (b : Fin 2) (s : Fin 1536) :
    k0_pay2 x w xs ws (ix3 b s 0) = exponentR (level (product x xs w ws b s)) := by
  rw [← show (fun o => k0_pay1 x w xs ws (ix3 b s o)) = product x xs w ws b s from funext (product_eq x xs w ws b s),
    ← level_at]
  unfold k0_pay2
  generalize k0_pay1 x w xs ws = y
  exact exponent_at _ b s

/-- The scale of each row. -/
theorem scale_eq (b : Fin 2) (s : Fin 1536) :
    k0_pay3 x w xs ws (ix3 b s 0) = scaleR (level (product x xs w ws b s)) := by
  unfold k0_pay3 scaleR
  rw [← exponent_eq]
  exact exp2_at _ b s

/-- The codes. -/
theorem code_eq (b : Fin 2) (s : Fin 1536) (o : Fin 1280) :
    k0_pay4 x w xs ws (ix3 b s o) = codeK (product x xs w ws b s) o := by
  unfold k0_pay4 codeK
  rw [inverseK_eq]
  unfold inverseR
  rw [← exponent_eq, ← product_eq]
  exact code_at _ _ b s o

/-- The array of codes. -/
theorem codes_eq : Value.G4 x xs w ws = fun j => codeK (product x xs w ws (j 0) (j 1)) (j 2) := by
  funext j
  obtain ⟨b, s, o, rfl⟩ : ∃ (b : Fin 2) (s : Fin 1536) (o : Fin 1280), j = ix3 b s o := ⟨j 0, j 1, j 2, eq_ix3 j⟩
  exact code_eq x xs w ws b s o

/-- The array of scales. -/
theorem scales_eq : Value.G5 x xs w ws = fun j => scaleK (level (product x xs w ws (j 0) (j 1))) := by
  funext j
  obtain ⟨b, s, rfl⟩ : ∃ (b : Fin 2) (s : Fin 1536), j = ix3 b s 0 :=
    ⟨j 0, j 1, (eq_ix3 j).trans (congrArg (fun a => ix3 (j 0) (j 1) a) (Subsingleton.elim _ _))⟩
  exact (scale_eq x xs w ws b s).trans (scaleK_eq _).symm

end Cert.Reference
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The idealized kernel and the idealized reference end with the same codes and the same scales. -/
theorem algebraic :
    algebraic_KernelIdeal_ReferenceIdeal (hKernelIdeal := Cert.KernelIdeal.Gen.facts)
      (hReferenceIdeal := Cert.ReferenceIdeal.Gen.facts) := by
  intro m g m' g' _ hargs
  refine ⟨_, _, Cert.Array.run m g, (θ_run _ _ _).mono (fun r h c => ?_) (Cert.ReferenceIdeal.Value.run m' g')⟩
  obtain ⟨h0, h1, hrest⟩ := h c
  obtain ⟨e0, e1, e2, e3⟩ := hargs c
  refine ⟨h0.trans ?_, h1.trans ?_, hrest⟩
  · rw [e0, e1, e2, e3]
    exact Cert.Reference.codes_eq _ _ _ _
  · rw [e0, e1, e2, e3]
    exact Cert.Reference.scales_eq _ _ _ _

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, algebraic⟩

end Cert.Proof

end
